-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S4x4096 : Shape := ⟨2, ![4, 4096]⟩
abbrev S4x1024 : Shape := ⟨2, ![4, 1024]⟩
abbrev S8192x1024 : Shape := ⟨2, ![8192, 1024]⟩
abbrev S4x2x1024 : Shape := ⟨3, ![4, 2, 1024]⟩
abbrev S4x2x1x1024 : Shape := ⟨4, ![4, 2, 1, 1024]⟩
abbrev S_ : Shape := ⟨0, ![]⟩
abbrev S4x1 : Shape := ⟨2, ![4, 1]⟩
abbrev S4x2047 : Shape := ⟨2, ![4, 2047]⟩
abbrev S4x6144 : Shape := ⟨2, ![4, 6144]⟩
abbrev S4x6144x1 : Shape := ⟨3, ![4, 6144, 1]⟩
abbrev S4x4097x1024 : Shape := ⟨3, ![4, 4097, 1024]⟩
abbrev S1x2048x1024 : Shape := ⟨3, ![1, 2048, 1024]⟩
abbrev S1x1x1x1024 : Shape := ⟨4, ![1, 1, 1, 1024]⟩
abbrev S1x2048x1 : Shape := ⟨3, ![1, 2048, 1]⟩
abbrev S2048x1024 : Shape := ⟨2, ![2048, 1024]⟩
abbrev S1x1024 : Shape := ⟨2, ![1, 1024]⟩
abbrev S2048x1 : Shape := ⟨2, ![2048, 1]⟩
abbrev S1x1 : Shape := ⟨2, ![1, 1]⟩
abbrev S1x1x1024 : Shape := ⟨3, ![1, 1, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4x1024, .f32⟩
  | .hbm, ⟨3, _⟩ => ⟨S8192x1024, .f32⟩
  | .hbm, ⟨4, _⟩ => ⟨S4x2x1024, .f32⟩
  | .hbm, ⟨5, _⟩ => ⟨S4x2x1x1024, .f32⟩
  | .hbm, ⟨6, _⟩ => ⟨S_, .i32⟩
  | .hbm, ⟨7, _⟩ => ⟨S4x1, .i32⟩
  | .hbm, ⟨8, _⟩ => ⟨S_, .i32⟩
  | .hbm, ⟨9, _⟩ => ⟨S4x2047, .i32⟩
  | .hbm, ⟨10, _⟩ => ⟨S4x6144, .i32⟩
  | .hbm, ⟨11, _⟩ => ⟨S4x6144x1, .i32⟩
  | .hbm, ⟨12, _⟩ => ⟨S4x4097x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x2048x1, .i32⟩
  | .local _ .vmem, ⟨5, _⟩ => ⟨S1x2048x1, .i32⟩
  | .local _ .vmem, ⟨6, _⟩ => ⟨S4x1024, .f32⟩
  | .local _ .vmem, ⟨7, _⟩ => ⟨S2048x1024, .f32⟩
  | .local _ .vmem, ⟨8, _⟩ => ⟨S2048x1024, .f32⟩
  | .local _ .vmem, ⟨9, _⟩ => ⟨S1x2048x1024, .f32⟩
  | .local _ .vmem, ⟨10, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c3_i32 : BitVec 32 := 3#32
  let v1 : BitVec 32 := Scalar.select v0 arg1 c3_i32
  let c1_i32 : BitVec 32 := 1#32
  let v2 : BitVec 32 := Scalar.minsi arg0 c1_i32
  let c0_i32 : BitVec 32 := 0#32
  let c0_i32_0 : BitVec 32 := 0#32
  ![v1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg1.toNat, v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x1024 : Shape := ⟨3, ![4, 4096, 1024]⟩
abbrev S4x4096 : Shape := ⟨2, ![4, 4096]⟩
abbrev S4x1024 : Shape := ⟨2, ![4, 1024]⟩
abbrev S8192x1024 : Shape := ⟨2, ![8192, 1024]⟩
abbrev S_ : Shape := ⟨0, ![]⟩
abbrev S4x1 : Shape := ⟨2, ![4, 1]⟩
abbrev S4x1x1 : Shape := ⟨3, ![4, 1, 1]⟩
abbrev S1 : Shape := ⟨1, ![1]⟩
abbrev S1x1x1 : Shape := ⟨3, ![1, 1, 1]⟩
abbrev S4x1x1024 : Shape := ⟨3, ![4, 1, 1024]⟩
abbrev S4x4096x1 : Shape := ⟨3, ![4, 4096, 1]⟩
abbrev S4x4097x1024 : Shape := ⟨3, ![4, 4097, 1024]⟩
abbrev S4097x1024 : Shape := ⟨2, ![4097, 1024]⟩
abbrev S1x4097x1024 : Shape := ⟨3, ![1, 4097, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4x1024, .f32⟩
  | .hbm, ⟨3, _⟩ => ⟨S8192x1024, .f32⟩
  | .hbm, ⟨4, _⟩ => ⟨S_, .i32⟩
  | .hbm, ⟨5, _⟩ => ⟨S4x1, .i32⟩
  | .hbm, ⟨6, _⟩ => ⟨S_, .i32⟩
  | .hbm, ⟨7, _⟩ => ⟨S4x1, .i32⟩
  | .hbm, ⟨8, _⟩ => ⟨S_, .i32⟩
  | .hbm, ⟨9, _⟩ => ⟨S4x1, .i32⟩
  | .hbm, ⟨10, _⟩ => ⟨S4x1, .i1⟩
  | .hbm, ⟨11, _⟩ => ⟨S_, .i32⟩
  | .hbm, ⟨12, _⟩ => ⟨S4x1, .i32⟩
  | .hbm, ⟨13, _⟩ => ⟨S4x1, .i32⟩
  | .hbm, ⟨14, _⟩ => ⟨S4x1, .i32⟩
  | .hbm, ⟨15, _⟩ => ⟨S4x1x1, .i32⟩
  | .hbm, ⟨16, _⟩ => ⟨S1, .i32⟩
  | .hbm, ⟨17, _⟩ => ⟨S_, .i32⟩
  | .hbm, ⟨18, _⟩ => ⟨S4x1x1, .i32⟩
  | .hbm, ⟨19, _⟩ => ⟨S4x1x1, .i1⟩
  | .hbm, ⟨20, _⟩ => ⟨S1x1x1, .i32⟩
  | .hbm, ⟨21, _⟩ => ⟨S4x1x1, .i32⟩
  | .hbm, ⟨22, _⟩ => ⟨S4x1x1, .i1⟩
  | .hbm, ⟨23, _⟩ => ⟨S4x1x1, .i1⟩
  | .hbm, ⟨24, _⟩ => ⟨S_, .i1⟩
  | .hbm, ⟨25, _⟩ => ⟨S4x1, .i1⟩
  | .hbm, ⟨26, _⟩ => ⟨S4x1x1024, .f32⟩
  | .hbm, ⟨27, _⟩ => ⟨S4x1x1024, .i1⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S_, .i32⟩
  | .hbm, ⟨32, _⟩ => ⟨S4x1, .i32⟩
  | .hbm, ⟨33, _⟩ => ⟨S4x1, .i1⟩
  | .hbm, ⟨34, _⟩ => ⟨S_, .i32⟩
  | .hbm, ⟨35, _⟩ => ⟨S4x1, .i32⟩
  | .hbm, ⟨36, _⟩ => ⟨S4x1, .i32⟩
  | .hbm, ⟨37, _⟩ => ⟨S4x1, .i32⟩
  | .hbm, ⟨38, _⟩ => ⟨S4x1x1, .i32⟩
  | .hbm, ⟨39, _⟩ => ⟨S1, .i32⟩
  | .hbm, ⟨40, _⟩ => ⟨S_, .i32⟩
  | .hbm, ⟨41, _⟩ => ⟨S4x1x1, .i32⟩
  | .hbm, ⟨42, _⟩ => ⟨S4x1x1, .i1⟩
  | .hbm, ⟨43, _⟩ => ⟨S1x1x1, .i32⟩
  | .hbm, ⟨44, _⟩ => ⟨S4x1x1, .i32⟩
  | .hbm, ⟨45, _⟩ => ⟨S4x1x1, .i1⟩
  | .hbm, ⟨46, _⟩ => ⟨S4x1x1, .i1⟩
  | .hbm, ⟨47, _⟩ => ⟨S_, .i1⟩
  | .hbm, ⟨48, _⟩ => ⟨S4x1, .i1⟩
  | .hbm, ⟨49, _⟩ => ⟨S4x1x1024, .f32⟩
  | .hbm, ⟨50, _⟩ => ⟨S4x1x1024, .i1⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S_, .i32⟩
  | .hbm, ⟨55, _⟩ => ⟨S4x4096, .i32⟩
  | .hbm, ⟨56, _⟩ => ⟨S4x4096, .i1⟩
  | .hbm, ⟨57, _⟩ => ⟨S4x4096x1, .i1⟩
  | .hbm, ⟨58, _⟩ => ⟨S4x4096x1024, .i1⟩
  | .hbm, ⟨59, _⟩ => ⟨S4x4096x1024, .f32⟩
  | .hbm, ⟨60, _⟩ => ⟨S4x4096x1024, .f32⟩
  | .hbm, ⟨61, _⟩ => ⟨S4x4097x1024, .f32⟩
  | .hbm, ⟨62, _⟩ => ⟨S_, .f32⟩
  | .hbm, ⟨63, _⟩ => ⟨S4x4097x1024, .f32⟩
  | .hbm, ⟨64, _⟩ => ⟨S4x4097x1024, .f32⟩
  | .hbm, ⟨65, _⟩ => ⟨S4097x1024, .f32⟩
  | .hbm, ⟨66, _⟩ => ⟨S1x4097x1024, .f32⟩
  | .hbm, ⟨67, _⟩ => ⟨S4x4097x1024, .f32⟩
  | .hbm, ⟨68, _⟩ => ⟨S4x4097x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_c_1 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_call2_v0 : Ref sig .tc := ⟨.hbm, 58, rfl⟩
abbrev main_call2_v1 : Ref sig .tc := ⟨.hbm, 59, rfl⟩
abbrev main_v7 : Ref sig .tc := ⟨.hbm, 60, rfl⟩
abbrev main_v8 : Ref sig .tc := ⟨.hbm, 61, rfl⟩
abbrev main_cst : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩

abbrev nD : Nat := 1
abbrev τ : Topo := Topo.v7x

variable {F : FTy → Type} [FloatOps F]
-- ==== Proof.Spec.lean ====
module

public import Idealize.ShloMosaic.Lib.Pointwise

@[expose] public section

noncomputable section

/-! The embedding, entry by entry. -/

namespace Cert.Emb

open Idealize.ShloMosaic

variable {F : FTy → Type} [FloatOps F]

/-- The row of the sequence that stands before position `r`, for `r` not the first. -/
abbrev prevRow (r : Fin 4097) (h : ¬r.val = 0) : Fin 4096 := ⟨r.val - 1, by have := r.isLt; omega⟩

/-- The vector placed at row `r` of batch `b`, at column `k`: the class token in the first row; below it the pad
    token where the flag of the row before is 3, and the location's own vector elsewhere. -/
def token (loc : (⟨3, ![4, 4096, 1024]⟩ : Shape).Idx → F .f32) (flags : (⟨2, ![4, 4096]⟩ : Shape).Idx → BitVec 32)
    (tok : (⟨2, ![4, 1024]⟩ : Shape).Idx → F .f32) (b : Fin 4) (r : Fin 4097) (k : Fin 1024) : F .f32 :=
  if h : r.val = 0 then tok (ix2 (0 : Fin 4) k)
  else Scalar.select (IntOp.cmpi .eq (flags (ix2 b (prevRow r h))) 3#32) (tok (ix2 (2 : Fin 4) k)) (loc (ix3 b (prevRow r h) k))

section
variable (loc : (⟨3, ![4, 4096, 1024]⟩ : Shape).Idx → F .f32) (flags : (⟨2, ![4, 4096]⟩ : Shape).Idx → BitVec 32)
  (tok : (⟨2, ![4, 1024]⟩ : Shape).Idx → F .f32) (b : Fin 4) (r : Fin 4097) (k : Fin 1024)

/-- The first row holds the class token. -/
theorem token_head (h : r.val = 0) : token loc flags tok b r k = tok (ix2 (0 : Fin 4) k) := dif_pos h

/-- A row below the first holds the end-of-sequence token or the location before it, by that location's flag. -/
theorem token_below (h : ¬r.val = 0) : token loc flags tok b r k
    = Scalar.select (IntOp.cmpi .eq (flags (ix2 b (prevRow r h))) 3#32) (tok (ix2 (2 : Fin 4) k)) (loc (ix3 b (prevRow r h) k)) :=
  dif_neg h

end

/-- The embedding: the token scaled by 32 (the square root of the width 1024), plus the position's encoding. -/
def embed (loc : (⟨3, ![4, 4096, 1024]⟩ : Shape).Idx → F .f32) (flags : (⟨2, ![4, 4096]⟩ : Shape).Idx → BitVec 32)
    (tok : (⟨2, ![4, 1024]⟩ : Shape).Idx → F .f32) (pos : (⟨2, ![8192, 1024]⟩ : Shape).Idx → F .f32) :
    (⟨3, ![4, 4097, 1024]⟩ : Shape).Idx → F .f32 := fun y =>
  FloatOps.addf (FloatOps.mulf (token loc flags tok (y 0) (y 1) (y 2)) (FloatOps.ofBits .f32 0x42000000#32))
    (pos (ix2 (⟨(y 1).val, lt_of_lt_of_le (y 1).isLt (by decide)⟩ : Fin 8192) (y 2)))

end Cert.Emb

end
-- ==== Proof.RefValue.lean ====
module

public import proofs.«01_k».proof.Proof.Spec
public import proofs.«01_k».proof.Proof.Gen.ReferenceIdeal.Run
public import Idealize.ShloMosaic.Lib.Tactic.CleanTypes
public import Idealize.ShloMosaic.Lib.StableHlo.Predicate

@[expose] public section

set_option maxRecDepth 8192

noncomputable section

/-! The reference computes the embedding. -/

namespace Cert.ReferenceIdeal.Emb

open Idealize.ShloMosaic Idealize.ShloMosaic.TcCoe
open Cert.ReferenceIdeal.Value

variable {F : FTy → Type} [FloatOps F]

variable (m : (ℓ : Loc nD τ sig) → Buf (Elt F) ℓ)

/-- Taking rows of the token table at one and the same row number gives that row everywhere. -/
theorem gather_row (x : S4x1024.Idx → F .f32) (idx : IVec S4x1x1 32) (w : BitVec 32) (hidx : ∀ i, idx i = w) (k : Fin 4)
    (hw : min w.toInt.toNat 3 = k.val) (y : S4x1x1024.Idx) :
    Host.gather gather_S4x1024_S4x1x1_S4x1x1024_2_0_n_n_0_2_11024 x idx y = x (ix2 k (y 2)) := by
  unfold Host.gather
  refine congrArg x (funext fun a => Fin.ext ?_)
  show GatherDims.start _ y idx a + GatherDims.batchCoord _ y a + GatherDims.offCoord _ y a = _
  rw [GatherDims.batchCoord_eq_zero _ _ _ List.not_mem_nil, Nat.add_zero]
  have hax : a = 0 ∨ a = 1 := by revert a; decide
  rcases hax with rfl | rfl
  · rw [GatherDims.offCoord_eq_zero _ _ _ (fun h => ((GatherDims.mem_sKept _ _).mp h).1 (List.mem_singleton.mpr rfl)), Nat.add_zero]
    unfold GatherDims.start
    refine (dif_pos (show (0 : Fin 2) ∈ [(0 : Fin 2)] from List.mem_singleton.mpr rfl)).trans ?_
    rw [hidx]
    exact hw
  · exact Nat.zero_add (y 2).val

/-- A conjunction of bits that are all 1 is 1. -/
theorem fold_ones {ι : Type} [Fintype ι] (f : ι → BitVec 1) (h : ∀ k, f k = 1#1) : Finset.fold IntOp.andi (1#1) f Finset.univ = 1#1 := by
  classical
  rw [show f = fun _ => 1#1 from funext h]
  refine Finset.induction_on (Finset.univ : Finset ι) rfl fun a s ha ih => ?_
  rw [Finset.fold_insert ha, ih]; rfl

/-- A choice whose condition holds gives its first alternative. -/
theorem select_taken {α : Type} {c : BitVec 1} {a a' b : α} (hc : c = 1#1) (ha : a = a') : Scalar.select c a b = a' := by
  subst hc ha; rfl

/-- The reference's result is the embedding of its arguments. -/
theorem result (c : Dev nD) : res_out0 m c = Cert.Emb.embed (m ((c.tc : Thread nD τ).loc main_arg0))
    (m ((c.tc : Thread nD τ).loc main_arg1)) (m ((c.tc : Thread nD τ).loc main_arg2)) (m ((c.tc : Thread nD τ).loc main_arg3)) := by
  funext y
  unfold res_out0 res_main_v14
  clean_types
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  pointwise [Cert.Emb.embed]
  refine congrArg (FloatOps.addf · _) (congrArg (FloatOps.mulf · _) ?_)
  unfold Cert.Emb.token
  by_cases h : (y 1).val < 1
  · refine (dif_pos h).trans (Eq.trans ?_ (dif_pos (Nat.lt_one_iff.mp h)).symm)
    exact select_taken (fold_ones _ fun _ => rfl) (gather_row x2 _ 0#32 (fun _ => rfl) 0 rfl _)
  · refine (dif_neg h).trans (Eq.trans ?_ (dif_neg (fun h' => h (Nat.lt_one_iff.mpr h'))).symm)
    refine congrArg (fun v => Scalar.select _ v _) ?_
    exact (select_taken (fold_ones _ fun _ => rfl) (gather_row x2 _ 2#32 (fun _ => rfl) 2 rfl _))

end Cert.ReferenceIdeal.Emb

end
-- ==== Proof.Body.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

/-! What one run of the kernel's body leaves in its output block. -/

namespace Cert.KernelIdeal.Emb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block `b` with its first row replaced by the one row `p`. -/
def setRow0 (p : Vec F S1x1x1024 .f32) (b : Vec F S1x2048x1024 .f32) : Vec F S1x2048x1024 .f32 :=
  fun y => if (y 1).val = 0 then p (ix3 (0 : Fin 1) (0 : Fin 1) (y 2)) else b y

/-- Row `k` of the four-row token table, as a one-row block. -/
def tokRow (k : Fin 4) (x3 : Vec F S4x1024 .f32) : Vec F S1x1024 .f32 := fun y => x3 (ix2 k (y 1))

/-- The first row of a block of position encodings, as a one-row block. -/
def posRow0 (x4 : Vec F S2048x1024 .f32) : Vec F S1x1024 .f32 := fun y => x4 (ix2 (0 : Fin 2048) (y 1))

/-- The row the body stores first in its output block, from the contents of its input blocks. -/
def row0 (i : grid0.Coords) (x1 : Vec F S1x1x1x1024 .f32) (x2 : Vec F S1x2048x1 .i32) (x3 : Vec F S4x1024 .f32)
    (x4 : Vec F S2048x1024 .f32) : Vec F S1x1x1024 .f32 :=
  k0_pay3 i x1 x2 (tokRow 0 x3) (tokRow 2 x3) (posRow0 x4)

/-- The condition under which the body writes a whole block: the grid's first coordinate is below 2. -/
abbrev bulk (i : grid0.Coords) : Prop :=
  (Scalar.cmpi .ne (Scalar.extui (Scalar.cmpi .slt (BitVec.ofNat 32 (i 0).val) 2#32)) 0#32) = 1#1

/-- A store of one row at the head of a block, over what earlier stores left. -/
theorem read_store_row0 {κ : Kind} {sp : Space} (v : View sig κ sp S1x2048x1024 .f32) (f : v.ty.Contents (Elt F))
    (inb : ∀ a, (![0, 0, 0] : Fin 3 → Nat) a + S1x1x1024.size a ≤ S1x2048x1024.size a) (p : Vec F S1x1x1024 .f32)
    (L : List (View.Piece (Elt F) S1x2048x1024 .f32)) :
    v.read (Elt F) (v.writes (Elt F) f (⟨Rect.unit (s := S1x2048x1024) ![0, 0, 0] S1x1x1024.size inb, p⟩ :: L))
      = setRow0 p (v.read (Elt F) (v.writes (Elt F) f L)) := by
  funext y
  unfold setRow0
  split_ifs with h
  · refine View.read_writes_cons_unit_of_mem v f inb p L y (ix3 (0 : Fin 1) (0 : Fin 1) (y 2)) rfl fun a => ?_
    match a with
    | ⟨0, _⟩ => exact congrArg Fin.val (Subsingleton.elim (α := Fin 1) (y 0) 0)
    | ⟨1, _⟩ => exact h
    | ⟨2, _⟩ => exact (Nat.zero_add _).symm
  · exact View.read_writes_cons_unit_of_not_mem v f inb p L y rfl 1 (.inr (Nat.succ_le_of_lt (Nat.pos_of_ne_zero h)))

/-- A load of one row of the token table reads that row. -/
theorem readAt_tokRow {κ : Kind} {sp : Space} (v : View sig κ sp S4x1024 .f32) (f : v.ty.Contents (Elt F)) (k : Fin 4) (off : Fin 2 → Nat)
    (hoff : off = ![k.val, 0]) (inb : ∀ a, off a + S1x1024.size a ≤ S4x1024.size a) :
    v.readAt (Elt F) (Rect.unit (s := S4x1024) off S1x1024.size inb).toLoadRect f = tokRow k (v.read (Elt F) f) := by
  subst hoff
  funext y
  refine congrArg (v.read (Elt F) f) (funext fun a => Fin.ext ?_)
  match a with
  | ⟨0, _⟩ =>
    show k.val + 1 * (y 0).val = k.val
    rw [congrArg Fin.val (Subsingleton.elim (α := Fin 1) (y 0) 0)]; rfl
  | ⟨1, _⟩ => exact (Nat.zero_add _).trans (Nat.one_mul _)

/-- A load of the first row of a block of position encodings reads that row. -/
theorem readAt_posRow0 {κ : Kind} {sp : Space} (v : View sig κ sp S2048x1024 .f32) (f : v.ty.Contents (Elt F))
    (inb : ∀ a, (![0, 0] : Fin 2 → Nat) a + S1x1024.size a ≤ S2048x1024.size a) :
    v.readAt (Elt F) (Rect.unit (s := S2048x1024) ![0, 0] S1x1024.size inb).toLoadRect f = posRow0 (v.read (Elt F) f) := by
  funext y
  refine congrArg (v.read (Elt F) f) (funext fun a => Fin.ext ?_)
  match a with
  | ⟨0, _⟩ =>
    show 0 + 1 * (y 0).val = 0
    rw [congrArg Fin.val (Subsingleton.elim (α := Fin 1) (y 0) 0)]; rfl
  | ⟨1, _⟩ => exact (Nat.zero_add _).trans (Nat.one_mul _)

/-- The first row computed from the values the body loads is the one computed from the blocks they are read from. -/
theorem row0_of_loads (i : grid0.Coords) {x1 : Vec F S1x1x1x1024 .f32} {x2 : Vec F S1x2048x1 .i32} {x3 : Vec F S4x1024 .f32}
    {x4 : Vec F S2048x1024 .f32} {v0 : Vec F S1x1x1x1024 .f32} {v2 : Vec F S1x2048x1 .i32} {v4 v5 v19 : Vec F S1x1024 .f32}
    (h0 : v0 = x1) (h2 : v2 = x2) (h4 : v4 = tokRow 0 x3) (h5 : v5 = tokRow 2 x3) (h19 : v19 = posRow0 x4) :
    k0_pay3 i v0 v2 v4 v5 v19 = row0 i x1 x2 x3 x4 := by
  subst h0 h2 h4 h5 h19; rfl

/-- The whole block computed from the values the body loads is the one computed from the blocks they are read from. -/
theorem block_of_loads {x0 : Vec F S1x2048x1024 .f32} {x2 : Vec F S1x2048x1 .i32} {x3 : Vec F S4x1024 .f32}
    {x4 : Vec F S2048x1024 .f32} {v2 : Vec F S1x2048x1 .i32} {v5 : Vec F S1x1024 .f32} {v24 : Vec F S1x2048x1024 .f32}
    {v36 : Vec F S2048x1024 .f32} (h2 : v2 = x2) (h5 : v5 = tokRow 2 x3) (h24 : v24 = x0) (h36 : v36 = x4) :
    k0_pay2 v2 v5 v24 v36 = k0_pay2 x2 (tokRow 2 x3) x0 x4 := by
  subst h2 h5 h24 h36; rfl

set_option maxHeartbeats 1000000 in
/-- Where the whole block is written, the body leaves the block computed from its inputs, with the first row
    stored over it; the input blocks are left as they were. -/
theorem run_bulk (c : Dev nD) (i : grid0.Coords) (arg2 : Memref sig .tc .vmem S1x2048x1024 .f32) (harg2 : arg2.IsWhole) (arg3 : Memref sig .tc .vmem S1x1x1x1024 .f32) (harg3 : arg3.IsWhole) (arg4 : Memref sig .tc .vmem S1x2048x1 .i32) (harg4 : arg4.IsWhole) (arg5 : Memref sig .tc .vmem S4x1024 .f32) (harg5 : arg5.IsWhole) (arg6 : Memref sig .tc .vmem S2048x1024 .f32) (harg6 : arg6.IsWhole) (arg7 : Memref sig .tc .vmem S1x2048x1024 .f32) (harg7 : arg7.IsWhole) (hc0 : bulk i)
    (x0 : Vec F S1x2048x1024 .f32) (x1 : Vec F S1x1x1x1024 .f32) (x2 : Vec F S1x2048x1 .i32) (x3 : Vec F S4x1024 .f32) (x4 : Vec F S2048x1024 .f32) (x5 : Vec F S1x2048x1024 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (setRow0 (row0 i x1 x2 x3 x4) (k0_pay2 x2 (tokRow 2 x3) x0 x4))) -∗ K ⟨⟩))
          ⊢ wp frame (wpE (defs₀ (F := F)) Variants.none c none) E (cc0__emb_kernel i arg2 harg2 arg3 harg3 arg4 harg4 arg5 harg5 arg6 harg6 arg7 harg7) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  exact (read_store_row0 arg7.view _ _ _ _).trans (congrArg₂ setRow0
    (row0_of_loads i ((View.readAt_full arg3.view _ _).trans hf1) ((View.readAt_full arg4.view _ _).trans hf2)
      ((readAt_tokRow arg5.view _ 0 _ rfl _).trans (congrArg (tokRow 0) hf3)) ((readAt_tokRow arg5.view _ 2 _ rfl _).trans (congrArg (tokRow 2) hf3))
      ((readAt_posRow0 arg6.view _ _).trans (congrArg posRow0 hf4)))
    ((View.read_writes_full arg7.view _ _ _ _).trans (block_of_loads ((View.readAt_full arg4.view _ _).trans hf2)
      ((readAt_tokRow arg5.view _ 2 _ rfl _).trans (congrArg (tokRow 2) hf3)) ((View.readAt_full arg2.view _ _).trans hf0)
      ((View.readAt_full arg6.view _ _).trans hf4))))

set_option maxHeartbeats 1000000 in
/-- Where it is not, the body stores the first row over what the output block held. -/
theorem run_tail (c : Dev nD) (i : grid0.Coords) (arg2 : Memref sig .tc .vmem S1x2048x1024 .f32) (harg2 : arg2.IsWhole) (arg3 : Memref sig .tc .vmem S1x1x1x1024 .f32) (harg3 : arg3.IsWhole) (arg4 : Memref sig .tc .vmem S1x2048x1 .i32) (harg4 : arg4.IsWhole) (arg5 : Memref sig .tc .vmem S4x1024 .f32) (harg5 : arg5.IsWhole) (arg6 : Memref sig .tc .vmem S2048x1024 .f32) (harg6 : arg6.IsWhole) (arg7 : Memref sig .tc .vmem S1x2048x1024 .f32) (harg7 : arg7.IsWhole) (hc0 : ¬bulk i)
    (x0 : Vec F S1x2048x1024 .f32) (x1 : Vec F S1x1x1x1024 .f32) (x2 : Vec F S1x2048x1 .i32) (x3 : Vec F S4x1024 .f32) (x4 : Vec F S2048x1024 .f32) (x5 : Vec F S1x2048x1024 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (setRow0 (row0 i x1 x2 x3 x4) x5)) -∗ K ⟨⟩))
          ⊢ wp frame (wpE (defs₀ (F := F)) Variants.none c none) E (cc0__emb_kernel i arg2 harg2 arg3 harg3 arg4 harg4 arg5 harg5 arg6 harg6 arg7 harg7) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  exact (read_store_row0 arg7.view _ _ _ _).trans (congrArg₂ setRow0
    (row0_of_loads i ((View.readAt_full arg3.view _ _).trans hf1) ((View.readAt_full arg4.view _ _).trans hf2)
      ((readAt_tokRow arg5.view _ 0 _ rfl _).trans (congrArg (tokRow 0) hf3)) ((readAt_tokRow arg5.view _ 2 _ rfl _).trans (congrArg (tokRow 2) hf3))
      ((readAt_posRow0 arg6.view _ _).trans (congrArg posRow0 hf4)))
    hf5)

end Cert.KernelIdeal.Emb

end
-- ==== Proof.Run.lean ====
module

public import proofs.«01_k».proof.Proof.Body
public import proofs.«01_k».proof.Proof.Gen.KernelIdeal.Launch
public import Idealize.ShloMosaic.Lib.Claim

@[expose] public section

set_option maxRecDepth 16384

noncomputable section

/-! The run of the whole program: every fair execution ends, with the output array at what the blocks written
back make of it, the arguments unchanged and the counters at zero. -/

namespace Cert.KernelIdeal.Emb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole block is written exactly at the first eight points. -/
theorem bulk_iff : ∀ t : Fin cfg0.N, bulk (grid0.coords t) ↔ t.val < 8 :=
  (by decide +kernel : ∀ t : Fin grid0.N, bulk (grid0.coords t) ↔ t.val < 8)

/-- At the last four points one row of the output block lies inside the array. -/
theorem xsize_tail : ∀ t : Fin cfg0.N, ¬t.val < 8 → win0_5.xsize (grid0.coords t) 1 = 1 :=
  (by decide +kernel : ∀ t : Fin grid0.N, ¬t.val < 8 → win0_5.xsize (grid0.coords t) 1 = 1)

/-- The output block at point `t` from the input blocks there, as it stands on the rows inside the array. -/
def outBlock (c : Dev nD) (t : Fin cfg0.N) : Vec F S1x2048x1024 .f32 :=
  setRow0 (row0 (grid0.coords t) (iblk m c 1 t) (iblk m c 2 t) (iblk m c 3 t) (iblk m c 4 t))
    (k0_pay2 (iblk m c 2 t) (tokRow 2 (iblk m c 3 t)) (iblk m c 0 t) (iblk m c 4 t))

/-- The proof data: each input's buffer holds its block after the body, the output's the block just named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the first input's buffer holds after the body. -/
theorem after_0 (c : Dev nD) (t : Fin cfg0.N) : (dats m 0 c).after 0 t = iblk m c 0 t := by dsimp only [dats]
/-- What the second input's buffer holds after the body. -/
theorem after_1 (c : Dev nD) (t : Fin cfg0.N) : (dats m 0 c).after 1 t = iblk m c 1 t := by dsimp only [dats]
/-- What the third input's buffer holds after the body. -/
theorem after_2 (c : Dev nD) (t : Fin cfg0.N) : (dats m 0 c).after 2 t = iblk m c 2 t := by dsimp only [dats]
/-- What the fourth input's buffer holds after the body. -/
theorem after_3 (c : Dev nD) (t : Fin cfg0.N) : (dats m 0 c).after 3 t = iblk m c 3 t := by dsimp only [dats]
/-- What the fifth input's buffer holds after the body. -/
theorem after_4 (c : Dev nD) (t : Fin cfg0.N) : (dats m 0 c).after 4 t = iblk m c 4 t := by dsimp only [dats]
/-- What the output's buffer holds after the body, on the rows inside the array. -/
theorem after_5 (c : Dev nD) (t : Fin cfg0.N) : (dats m 0 c).after 5 t = outBlock m c t := by dsimp only [dats]

/-- The body finds the first input's block in its buffer. -/
theorem before_0 (c : Dev nD) (t : Fin cfg0.N) (d) : (dats m 0 c).before 0 t d = iblk m c 0 t :=
  before0_0_of m (dats m 0 c) (A_eq m c 0) (after_0 m c) t d
/-- The body finds the second input's block in its buffer. -/
theorem before_1 (c : Dev nD) (t : Fin cfg0.N) (d) : (dats m 0 c).before 1 t d = iblk m c 1 t :=
  before0_1_of m (dats m 0 c) (A_eq m c 1) (after_1 m c) t d
/-- The body finds the third input's block in its buffer. -/
theorem before_2 (c : Dev nD) (t : Fin cfg0.N) (d) : (dats m 0 c).before 2 t d = iblk m c 2 t :=
  before0_2_of m (dats m 0 c) (A_eq m c 2) (after_2 m c) t d
/-- The body finds the fourth input's block in its buffer. -/
theorem before_3 (c : Dev nD) (t : Fin cfg0.N) (d) : (dats m 0 c).before 3 t d = iblk m c 3 t :=
  before0_3_of m (dats m 0 c) (A_eq m c 3) (after_3 m c) t d
/-- The body finds the fifth input's block in its buffer. -/
theorem before_4 (c : Dev nD) (t : Fin cfg0.N) (d) : (dats m 0 c).before 4 t d = iblk m c 4 t :=
  before0_4_of m (dats m 0 c) (A_eq m c 4) (after_4 m c) t d

/-- At the last four points only the first row of the output block is inside the array, and that row is the one
    stored: the block left there and the block named agree on what is written back. -/
theorem cut_tail (t : Fin cfg0.N) (h : ¬t.val < 8) (p : Vec F S1x1x1024 .f32) (b b' : Vec F S1x2048x1024 .f32) :
    win0_5.cut (grid0.coords t) (setRow0 p b) = win0_5.cut (grid0.coords t) (setRow0 p b') := by
  funext j
  have h1 : (j 1).val < 1 := lt_of_lt_of_eq (j 1).isLt (xsize_tail t h)
  have h0 : (win0_5.xinj (grid0.coords t) j 1).val = 0 := Nat.lt_one_iff.mp h1
  exact (if_pos h0).trans (if_pos h0).symm

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the inputs' buffers at their blocks, the output's at the block named on the rows inside the
    array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        (win0_5.fill (grid0.coords t) d (win0_5.cut (grid0.coords t) ((dats m 0 c).after 5 t)))))

set_option maxHeartbeats 800000 in
/-- The body at any point, by whether the whole block is written there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val < 8
  · iintro ⟨HΦ, Ho, ⟨%d0, H0⟩, ⟨%d1, H1⟩, ⟨%d2, H2⟩, ⟨%d3, H3⟩, ⟨%d4, H4⟩, ⟨%d5, H5⟩⟩
    iapply (run_bulk c (grid0.coords t) _ _ _ _ _ _ _ _ _ _ _ _ ((bulk_iff t).mpr h0) (iblk m c 0 t) (iblk m c 1 t) (iblk m c 2 t) (iblk m c 3 t) (iblk m c 4 t) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists (outBlock m c t)
    rw [win0_5.fill_cut]
    iexact H5
  · iintro ⟨HΦ, Ho, ⟨%d0, H0⟩, ⟨%d1, H1⟩, ⟨%d2, H2⟩, ⟨%d3, H3⟩, ⟨%d4, H4⟩, ⟨%d5, H5⟩⟩
    iapply (run_tail c (grid0.coords t) _ _ _ _ _ _ _ _ _ _ _ _ (fun h => h0 ((bulk_iff t).mp h)) (iblk m c 0 t) (iblk m c 1 t) (iblk m c 2 t) (iblk m c 3 t) (iblk m c 4 t) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists (setRow0 (row0 (grid0.coords t) (iblk m c 1 t) (iblk m c 2 t) (iblk m c 3 t) (iblk m c 4 t)) ((dats m 0 c).before 5 t d5))
    rw [win0_5.fill_congr_cut (grid0.coords t) (show win0_5.cut (grid0.coords t) _ = win0_5.cut (grid0.coords t) (outBlock m c t) from cut_tail t h0 _ _ _)]
    iexact H5

/-- The body the region calls at point `t` is the kernel on the buffers current there. -/
theorem body_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligationLoose (dats (F := F) m 0 c) (defs₀ (F := F)) Variants.none () Set.univ := fun t => by
  rw [bigSep_W0, bigSep_W0, body_row]
  exact triple_restated (sound_body m c t) rfl .rfl fun _ => .rfl

-- the launch theorem's implicit arguments are found by unfolding definitions in the types of metavariables
set_option backward.isDefEq.respectTransparency.types false in
/-- The launch: every fair execution ends with each window's array at what its write-backs make of it, every other
    buffer as the region found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The output array ends at what the twelve write-backs make of it. -/
theorem result_run : θ_run defs (onTc (τ := τ) (main (F := F))) ⟨m, fun _ => 0, ρ⟩ (fun r => ∀ c : Dev nD,
      r.2.mem ((c.tc : Thread nD τ).loc main_v6) = (dats m 0 c).arrAt 5 cfg0.N) :=
  (θ_run defs _ _).mono (fun _ h c => (h.1 c).1 5) (run_main m ρ)

end Cert.KernelIdeal.Emb

end
-- ==== Proof.Payload.lean ====
module

public import proofs.«01_k».proof.Proof.Body

@[expose] public section

set_option maxRecDepth 16384

noncomputable section

/-! What the body's two stores hold, entry by entry. -/

namespace Cert.KernelIdeal.Emb

open Cert.KernelIdeal.Gen
open Idealize.ShloMosaic Idealize.ShloMosaic.TcCoe

variable {F : FTy → Type} [FloatOps F]

/-- A row of the whole block below its first: the end-of-sequence token where the row's flag is 3 and the row above it of the
    location block elsewhere, scaled by 32, plus the row's position encoding. -/
theorem block_apply (x0 : Vec F S1x2048x1024 .f32) (x2 : Vec F S1x2048x1 .i32) (x3 : Vec F S4x1024 .f32)
    (x4 : Vec F S2048x1024 .f32) (r : Fin 2048) (r' : Fin 2048) (hr : r'.val + 1 = r.val) (k : Fin 1024) :
    k0_pay2 x2 (tokRow 2 x3) x0 x4 (ix3 (0 : Fin 1) r k)
      = FloatOps.addf (FloatOps.mulf (Scalar.select (IntOp.cmpi .eq (x2 (ix3 (0 : Fin 1) r (0 : Fin 1))) 3#32) (x3 (ix2 (2 : Fin 4) k))
          (x0 (ix3 (0 : Fin 1) r' k))) (FloatOps.ofBits .f32 0x42000000#32)) (x4 (ix2 r k)) := by
  pointwise [k0_pay2, k0_pay1, tokRow]
  rw [show (⟨(r.val + 2048 - 1) % 2048, Nat.mod_lt _ (by decide)⟩ : Fin 2048) = r' from Fin.ext (by have := r.isLt; show _ % _ = r'.val; omega)]

/-- The first row as stored: at the first block row the class token, at the others the end-of-sequence token where the row's flag
    is 3 and the row carried over from the block above elsewhere; scaled by 32, plus the row's position encoding. -/
theorem row0_apply (i : grid0.Coords) (x1 : Vec F S1x1x1x1024 .f32) (x2 : Vec F S1x2048x1 .i32) (x3 : Vec F S4x1024 .f32)
    (x4 : Vec F S2048x1024 .f32) (k : Fin 1024) :
    row0 i x1 x2 x3 x4 (ix3 (0 : Fin 1) (0 : Fin 1) k)
      = FloatOps.addf (FloatOps.mulf (Scalar.select (Scalar.cmpi .eq (BitVec.ofNat 32 (i 0).val) 0#32) (x3 (ix2 (0 : Fin 4) k))
          (Scalar.select (IntOp.cmpi .eq (x2 (ix3 (0 : Fin 1) (0 : Fin 2048) (0 : Fin 1))) 3#32) (x3 (ix2 (2 : Fin 4) k))
          (x1 (ix4 (0 : Fin 1) (0 : Fin 1) (0 : Fin 1) k)))) (FloatOps.ofBits .f32 0x42000000#32)) (x4 (ix2 (0 : Fin 2048) k)) := by
  pointwise [row0, k0_pay3, k0_pay1, tokRow, posRow0]

end Cert.KernelIdeal.Emb

end
-- ==== Proof.Host.lean ====
module

public import proofs.«01_k».proof.Proof.Gen.KernelIdeal.Frame
public import Idealize.ShloMosaic.Lib.Pointwise
public import Idealize.ShloMosaic.Lib.Tactic.CleanTypes

@[expose] public section

set_option maxRecDepth 16384

noncomputable section

/-! The two arrays the program prepares for the kernel, entry by entry. -/

namespace Cert.KernelIdeal.Emb

open Cert.KernelIdeal.Gen
open Idealize.ShloMosaic Idealize.ShloMosaic.TcCoe Idealize.ShloMosaic.StableHlo

variable {F : FTy → Type} [FloatOps F]

variable (m : (ℓ : Loc nD τ sig) → Buf (Elt F) ℓ)

/-- The carried rows: row `q` is the last location row of block `q`. -/
theorem carried_apply (c : Dev nD) (x : Vec F S4x4096x1024 .f32) (hx : m ((c.tc : Thread nD τ).loc main_arg0) = x)
    (b : Fin 4) (q : Fin 2) (k : Fin 1024) :
    (V m c main_v1 : Vec F S4x2x1x1024 .f32) (ix4 b q (0 : Fin 1) k)
      = x (ix3 b (⟨2047 + 2048 * q.val, by have := q.isLt; omega⟩ : Fin 4096) k) := by
  have e : (V m c main_v1 : Vec F S4x2x1x1024 .f32)
      = shapeCast S4x2x1x1024 (Host.slice S4x2x1024 ![0, 2047, 0] ![1, 2048, 1] x slicesBy_S4x4096x1024_S4x2x1024_0s1_2047s2048_0s1)
          shapeCasts_S4x2x1024_S4x2x1x1024 := by
    subst hx
    unfold V
    after_results_simp
    rfl
  rw [e]
  pointwise

/-- The flags as laid out for the kernel: position `r` below the first carries the flag of row `r - 1`. -/
theorem flags_apply (c : Dev nD) (x : Vec F S4x4096 .i32) (hx : m ((c.tc : Thread nD τ).loc main_arg1) = x)
    (b : Fin 4) (r : Fin 6144) (r' : Fin 4096) (hr : r'.val + 1 = r.val) :
    (V m c main_v5 : Vec F S4x6144x1 .i32) (ix3 b r (0 : Fin 1)) = x (ix2 b r') := by
  have e : (V m c main_v5 : Vec F S4x6144x1 .i32)
      = shapeCast S4x6144x1 (concatenate S4x6144 1 [⟨S4x1, (broadcastInDim S4x1 ![] bcast_S_S4x1 (constantI S_ 32 0#32) : Vec F S4x1 .i32)⟩, ⟨S4x4096, x⟩,
          ⟨S4x2047, (broadcastInDim S4x2047 ![] bcast_S_S4x2047 (constantI S_ 32 0#32) : Vec F S4x2047 .i32)⟩]
          concatenates_S4x1_S4x4096_S4x2047_S4x6144_d1) shapeCasts_S4x6144_S4x6144x1 := by
    subst hx
    unfold V
    after_results_simp
    rfl
  rw [e]
  pointwise
  have h' := r'.isLt
  rw [dif_neg (by omega), dif_pos (by omega)]
  exact congrArg (fun q => x (ix2 b q)) (Fin.ext (by show r.val - 1 = r'.val; omega))

end Cert.KernelIdeal.Emb

end
-- ==== Proof.Blocks.lean ====
module

public import proofs.«01_k».proof.Proof.Host

@[expose] public section

set_option maxRecDepth 16384

noncomputable section

/-! What each input block holds, entry by entry. Point `t` of the grid handles row block `t / 4` of batch `t % 4`. -/

namespace Cert.KernelIdeal.Emb

open Cert.KernelIdeal.Gen
open Idealize.ShloMosaic Idealize.ShloMosaic.TcCoe

variable {F : FTy → Type} [FloatOps F]

variable (m : (ℓ : Loc nD τ sig) → Buf (Elt F) ℓ)

/-- The batch point `t` handles. -/
abbrev batch (t : Fin cfg0.N) : Fin 4 := ⟨t.val % 4, Nat.mod_lt _ (by decide)⟩

/-- There are twelve points. -/
theorem point_lt (t : Fin cfg0.N) : t.val < 12 := lt_of_lt_of_eq t.isLt (by decide)

/-- The location block at the first eight points: row block `t / 4` of batch `t % 4`. -/
theorem index_0 : ∀ t : Fin cfg0.N, t.val < 8 → win0_0.index t 0 = t.val % 4 ∧ win0_0.index t 1 = t.val / 4 ∧ win0_0.index t 2 = 0 :=
  (by decide +kernel : ∀ t : Fin grid0.N, t.val < 8 → win0_0.index t 0 = t.val % 4 ∧ win0_0.index t 1 = t.val / 4 ∧ win0_0.index t 2 = 0)
/-- The carried row from the fifth point on: row `t / 4 - 1` of batch `t % 4`. -/
theorem index_1 : ∀ t : Fin cfg0.N, 4 ≤ t.val → win0_1.index t 0 = t.val % 4 ∧ win0_1.index t 1 = t.val / 4 - 1 ∧ win0_1.index t 2 = 0 ∧ win0_1.index t 3 = 0 :=
  (by decide +kernel : ∀ t : Fin grid0.N, 4 ≤ t.val → win0_1.index t 0 = t.val % 4 ∧ win0_1.index t 1 = t.val / 4 - 1 ∧ win0_1.index t 2 = 0 ∧ win0_1.index t 3 = 0)
/-- The flag block: row block `t / 4` of batch `t % 4`. -/
theorem index_2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)
/-- The token table: the whole of it. -/
theorem index_3 : ∀ t : Fin cfg0.N, win0_3.index t 0 = 0 ∧ win0_3.index t 1 = 0 :=
  (by decide +kernel : ∀ t : Fin grid0.N, win0_3.index t 0 = 0 ∧ win0_3.index t 1 = 0)
/-- The position encodings: row block `t / 4`. -/
theorem index_4 : ∀ t : Fin cfg0.N, win0_4.index t 0 = t.val / 4 ∧ win0_4.index t 1 = 0 :=
  (by decide +kernel : ∀ t : Fin grid0.N, win0_4.index t 0 = t.val / 4 ∧ win0_4.index t 1 = 0)
/-- The output block: row block `t / 4` of batch `t % 4`. -/
theorem index_5 : ∀ t : Fin cfg0.N, win0_5.index t 0 = t.val % 4 ∧ win0_5.index t 1 = t.val / 4 ∧ win0_5.index t 2 = 0 :=
  (by decide +kernel : ∀ t : Fin grid0.N, win0_5.index t 0 = t.val % 4 ∧ win0_5.index t 1 = t.val / 4 ∧ win0_5.index t 2 = 0)

/-- The location block at one of the first eight points, read from the location array. -/
theorem loc_block (c : Dev nD) (x : Vec F S4x4096x1024 .f32) (hx : m ((c.tc : Thread nD τ).loc main_arg0) = x)
    (t : Fin cfg0.N) (ht : t.val < 8) (r : Fin 2048) (k : Fin 1024) (R : Fin 4096) (hR : R.val = 2048 * (t.val / 4) + r.val) :
    (iblk m c 0 t : Vec F S1x2048x1024 .f32) (ix3 (0 : Fin 1) r k) = x (ix3 (batch t) R k) := by
  show V m c main_arg0 ((win0_0.blk t).view.emb (ix3 (0 : Fin 1) r k)) = _
  rw [V_main_arg0, hx]
  obtain ⟨h0, h1, h2⟩ := index_0 t ht
  have e := Pipeline.Window.rect_emb_val win0_0 t (ix3 (0 : Fin 1) r k)
  refine congrArg x (funext fun a => Fin.ext ?_)
  match a with
  | ⟨0, _⟩ => exact (e 0).trans (by rw [h0]; show t.val % 4 * 1 + 0 = t.val % 4; omega)
  | ⟨1, _⟩ => exact (e 1).trans (by rw [h1]; show t.val / 4 * 2048 + r.val = R.val; omega)
  | ⟨2, _⟩ => exact (e 2).trans (by rw [h2]; show 0 * 1024 + k.val = k.val; omega)

/-- The carried row at one of the last eight points: the location row just before the row block. -/
theorem carried_block (c : Dev nD) (x : Vec F S4x4096x1024 .f32) (hx : m ((c.tc : Thread nD τ).loc main_arg0) = x)
    (t : Fin cfg0.N) (ht : 4 ≤ t.val) (k : Fin 1024) (R : Fin 4096) (hR : R.val + 1 = 2048 * (t.val / 4)) :
    (iblk m c 1 t : Vec F S1x1x1x1024 .f32) (ix4 (0 : Fin 1) (0 : Fin 1) (0 : Fin 1) k) = x (ix3 (batch t) R k) := by
  have h12 := point_lt t
  obtain ⟨h0, h1, h2, h3⟩ := index_1 t ht
  have e := Pipeline.Window.rect_emb_val win0_1 t (ix4 (0 : Fin 1) (0 : Fin 1) (0 : Fin 1) k)
  have he : (win0_1.blk t).view.emb (ix4 (0 : Fin 1) (0 : Fin 1) (0 : Fin 1) k)
      = (ix4 (batch t) (⟨t.val / 4 - 1, by omega⟩ : Fin 2) (0 : Fin 1) k : S4x2x1x1024.Idx) := by
    refine funext fun a => Fin.ext ?_
    match a with
    | ⟨0, _⟩ => exact (e 0).trans (by rw [h0]; show t.val % 4 * 1 + 0 = t.val % 4; omega)
    | ⟨1, _⟩ => exact (e 1).trans (by rw [h1]; show (t.val / 4 - 1) * 1 + 0 = t.val / 4 - 1; omega)
    | ⟨2, _⟩ => exact (e 2).trans (by rw [h2]; rfl)
    | ⟨3, _⟩ => exact (e 3).trans (by rw [h3]; show 0 * 1024 + k.val = k.val; omega)
  refine (congrArg (V m c main_v1 : Vec F S4x2x1x1024 .f32) he).trans ((carried_apply m c x hx _ _ _).trans ?_)
  exact congrArg (fun q => x (ix3 (batch t) q k)) (Fin.ext (by show 2047 + 2048 * (t.val / 4 - 1) = R.val; omega))

/-- The flag block: block row `r` of row block `t / 4` carries the flag of the row before it. -/
theorem flag_block (c : Dev nD) (x : Vec F S4x4096 .i32) (hx : m ((c.tc : Thread nD τ).loc main_arg1) = x)
    (t : Fin cfg0.N) (r : Fin 2048) (R : Fin 4096) (hR : R.val + 1 = 2048 * (t.val / 4) + r.val) :
    (iblk m c 2 t : Vec F S1x2048x1 .i32) (ix3 (0 : Fin 1) r (0 : Fin 1)) = x (ix2 (batch t) R) := by
  have h12 := point_lt t
  obtain ⟨h0, h1, h2⟩ := index_2 t
  have e := Pipeline.Window.rect_emb_val win0_2 t (ix3 (0 : Fin 1) r (0 : Fin 1))
  have he : (win0_2.blk t).view.emb (ix3 (0 : Fin 1) r (0 : Fin 1))
      = (ix3 (batch t) (⟨2048 * (t.val / 4) + r.val, by have := r.isLt; omega⟩ : Fin 6144) (0 : Fin 1) : S4x6144x1.Idx) := by
    refine funext fun a => Fin.ext ?_
    match a with
    | ⟨0, _⟩ => exact (e 0).trans (by rw [h0]; show t.val % 4 * 1 + 0 = t.val % 4; omega)
    | ⟨1, _⟩ => exact (e 1).trans (by rw [h1]; show t.val / 4 * 2048 + r.val = 2048 * (t.val / 4) + r.val; omega)
    | ⟨2, _⟩ => exact (e 2).trans (by rw [h2]; rfl)
  exact (congrArg (V m c main_v5 : Vec F S4x6144x1 .i32) he).trans (flags_apply m c x hx _ _ R hR)

/-- The token block is the token table. -/
theorem tok_block (c : Dev nD) (x : Vec F S4x1024 .f32) (hx : m ((c.tc : Thread nD τ).loc main_arg2) = x)
    (t : Fin cfg0.N) (q : Fin 4) (k : Fin 1024) : (iblk m c 3 t : Vec F S4x1024 .f32) (ix2 q k) = x (ix2 q k) := by
  show V m c main_arg2 ((win0_3.blk t).view.emb (ix2 q k)) = _
  rw [V_main_arg2, hx]
  obtain ⟨h0, h1⟩ := index_3 t
  have e := Pipeline.Window.rect_emb_val win0_3 t (ix2 q k)
  refine congrArg x (funext fun a => Fin.ext ?_)
  match a with
  | ⟨0, _⟩ => exact (e 0).trans (by rw [h0]; show 0 * 4 + q.val = q.val; omega)
  | ⟨1, _⟩ => exact (e 1).trans (by rw [h1]; show 0 * 1024 + k.val = k.val; omega)

/-- The block of position encodings, read from their table. -/
theorem pos_block (c : Dev nD) (x : Vec F S8192x1024 .f32) (hx : m ((c.tc : Thread nD τ).loc main_arg3) = x)
    (t : Fin cfg0.N) (r : Fin 2048) (k : Fin 1024) (R : Fin 8192) (hR : R.val = 2048 * (t.val / 4) + r.val) :
    (iblk m c 4 t : Vec F S2048x1024 .f32) (ix2 r k) = x (ix2 R k) := by
  show V m c main_arg3 ((win0_4.blk t).view.emb (ix2 r k)) = _
  rw [V_main_arg3, hx]
  obtain ⟨h0, h1⟩ := index_4 t
  have e := Pipeline.Window.rect_emb_val win0_4 t (ix2 r k)
  refine congrArg x (funext fun a => Fin.ext ?_)
  match a with
  | ⟨0, _⟩ => exact (e 0).trans (by rw [h0]; show t.val / 4 * 2048 + r.val = R.val; omega)
  | ⟨1, _⟩ => exact (e 1).trans (by rw [h1]; show 0 * 1024 + k.val = k.val; omega)

end Cert.KernelIdeal.Emb

end
-- ==== Proof.Value.lean ====
module

public import proofs.«01_k».proof.Proof.Run
public import proofs.«01_k».proof.Proof.Spec
public import proofs.«01_k».proof.Proof.Payload
public import proofs.«01_k».proof.Proof.Blocks

@[expose] public section

set_option maxRecDepth 16384

noncomputable section

/-! The kernel leaves the embedding in its output array. -/

namespace Cert.KernelIdeal.Emb

open Cert.KernelIdeal.Gen
open Idealize.ShloMosaic Idealize.ShloMosaic.TcCoe

variable {F : FTy → Type} [FloatOps F]

variable (m : (ℓ : Loc nD τ sig) → Buf (Elt F) ℓ)

/-- The first four points are those of row block 0. -/
theorem head_true : ∀ t : Fin cfg0.N, t.val < 4 → Scalar.cmpi .eq (BitVec.ofNat 32 (grid0.coords t 0).val) 0#32 = 1#1 :=
  (by decide +kernel : ∀ t : Fin grid0.N, t.val < 4 → Scalar.cmpi .eq (BitVec.ofNat 32 (grid0.coords t 0).val) 0#32 = 1#1)

/-- The other points are not. -/
theorem head_false : ∀ t : Fin cfg0.N, ¬t.val < 4 → Scalar.cmpi .eq (BitVec.ofNat 32 (grid0.coords t 0).val) 0#32 = 0#1 :=
  (by decide +kernel : ∀ t : Fin grid0.N, ¬t.val < 4 → Scalar.cmpi .eq (BitVec.ofNat 32 (grid0.coords t 0).val) 0#32 = 0#1)

/-- The output block at point `t`, on the rows inside the array, is that part of the embedding. -/
theorem outBlock_apply (c : Dev nD) (x0 : Vec F S4x4096x1024 .f32) (hx0 : m ((c.tc : Thread nD τ).loc main_arg0) = x0)
    (x1 : Vec F S4x4096 .i32) (hx1 : m ((c.tc : Thread nD τ).loc main_arg1) = x1)
    (x2 : Vec F S4x1024 .f32) (hx2 : m ((c.tc : Thread nD τ).loc main_arg2) = x2)
    (x3 : Vec F S8192x1024 .f32) (hx3 : m ((c.tc : Thread nD τ).loc main_arg3) = x3)
    (t : Fin cfg0.N) (r : Fin 2048) (k : Fin 1024) (R : Fin 4097) (hR : R.val = 2048 * (t.val / 4) + r.val) :
    outBlock m c t (ix3 (0 : Fin 1) r k) = Cert.Emb.embed x0 x1 x2 x3 (ix3 (batch t) R k) := by
  have hR' := R.isLt
  have hp : (iblk m c 4 t : Vec F S2048x1024 .f32) (ix2 r k) = x3 (ix2 (⟨R.val, lt_of_lt_of_le R.isLt (by decide)⟩ : Fin 8192) k) :=
    pos_block m c x3 hx3 t r k _ hR
  unfold outBlock setRow0 Cert.Emb.embed
  by_cases hr : r.val = 0
  · obtain rfl : r = 0 := Fin.ext hr
    refine (if_pos rfl).trans ((row0_apply _ _ _ _ _ k).trans ?_)
    refine congrArg₂ FloatOps.addf (congrArg (FloatOps.mulf · _) ?_) hp
    by_cases ht : t.val < 4
    · rw [head_true t ht, tok_block m c x2 hx2]
      exact (Cert.Emb.token_head x0 x1 x2 (batch t) R k (by rw [hR]; show _ + 0 = 0; omega)).symm
    · have hn : ¬R.val = 0 := by omega
      rw [head_false t ht, flag_block m c x1 hx1 t 0 (Cert.Emb.prevRow R hn) (by show R.val - 1 + 1 = _; rw [← hR]; omega),
        carried_block m c x0 hx0 t (by omega) k (Cert.Emb.prevRow R hn) (by show R.val - 1 + 1 = _; have : R.val = 2048 * (t.val / 4) + 0 := hR; omega),
        tok_block m c x2 hx2, tok_block m c x2 hx2]
      exact (Cert.Emb.token_below x0 x1 x2 (batch t) R k hn).symm
  · have hn : ¬R.val = 0 := by omega
    have ht : t.val < 8 := by omega
    have hr' := r.isLt
    refine (if_neg hr).trans ((block_apply _ _ _ _ r (⟨r.val - 1, by omega⟩ : Fin 2048) (by show r.val - 1 + 1 = _; omega) k).trans ?_)
    refine congrArg₂ FloatOps.addf (congrArg (FloatOps.mulf · _) ?_) hp
    rw [flag_block m c x1 hx1 t r (Cert.Emb.prevRow R hn) (by show R.val - 1 + 1 = _; omega),
      loc_block m c x0 hx0 t ht _ k (Cert.Emb.prevRow R hn) (by show R.val - 1 = _ + (r.val - 1); omega), tok_block m c x2 hx2]
    exact (Cert.Emb.token_below x0 x1 x2 (batch t) R k hn).symm

/-- The rows of the output block that lie inside the array. -/
theorem xsize_1 : ∀ t : Fin cfg0.N, win0_5.xsize (grid0.coords t) 1 = min 2048 (4097 - 2048 * (t.val / 4)) :=
  (by decide +kernel : ∀ t : Fin grid0.N, win0_5.xsize (grid0.coords t) 1 = min 2048 (4097 - 2048 * (t.val / 4)))
/-- The output block's batches lie inside the array. -/
theorem xsize_0 : ∀ t : Fin cfg0.N, win0_5.xsize (grid0.coords t) 0 = 1 :=
  (by decide +kernel : ∀ t : Fin grid0.N, win0_5.xsize (grid0.coords t) 0 = 1)
/-- The output block's columns lie inside the array. -/
theorem xsize_2 : ∀ t : Fin cfg0.N, win0_5.xsize (grid0.coords t) 2 = 1024 :=
  (by decide +kernel : ∀ t : Fin grid0.N, win0_5.xsize (grid0.coords t) 2 = 1024)

/-- What point `t` writes back is its part of the embedding. -/
theorem flushed_eq (c : Dev nD) (x0 : Vec F S4x4096x1024 .f32) (hx0 : m ((c.tc : Thread nD τ).loc main_arg0) = x0)
    (x1 : Vec F S4x4096 .i32) (hx1 : m ((c.tc : Thread nD τ).loc main_arg1) = x1)
    (x2 : Vec F S4x1024 .f32) (hx2 : m ((c.tc : Thread nD τ).loc main_arg2) = x2)
    (x3 : Vec F S8192x1024 .f32) (hx3 : m ((c.tc : Thread nD τ).loc main_arg3) = x3) (t : Fin cfg0.N) :
    (dats m 0 c).flushed 5 t = ((cfg0.win 5).blk t).view.read (Elt F) (Cert.Emb.embed x0 x1 x2 x3) := by
  funext j
  show win0_5.cut (grid0.coords t) ((dats m 0 c).after 5 t) j = Cert.Emb.embed x0 x1 x2 x3 ((win0_5.blk t).view.emb j)
  rw [after_5]
  obtain ⟨h0, h1, h2⟩ := index_5 t
  have b0 : (j 0).val < 1 := lt_of_lt_of_eq (j 0).isLt (xsize_0 t)
  have b1 : (j 1).val < min 2048 (4097 - 2048 * (t.val / 4)) := lt_of_lt_of_eq (j 1).isLt (xsize_1 t)
  have b2 : (j 2).val < 1024 := lt_of_lt_of_eq (j 2).isLt (xsize_2 t)
  have e := Pipeline.Window.rect_emb_val win0_5 t j
  have hj : win0_5.xinj (grid0.coords t) j = (ix3 (0 : Fin 1) (⟨(j 1).val, by omega⟩ : Fin 2048) (⟨(j 2).val, b2⟩ : Fin 1024) : S1x2048x1024.Idx) := by
    refine funext fun a => Fin.ext ?_
    match a with
    | ⟨0, _⟩ => exact Nat.lt_one_iff.mp b0
    | ⟨1, _⟩ => rfl
    | ⟨2, _⟩ => rfl
  have he : (win0_5.blk t).view.emb j
      = (ix3 (batch t) (⟨2048 * (t.val / 4) + (j 1).val, by omega⟩ : Fin 4097) (⟨(j 2).val, b2⟩ : Fin 1024) : S4x4097x1024.Idx) := by
    refine funext fun a => Fin.ext ?_
    match a with
    | ⟨0, _⟩ => exact (e 0).trans (by rw [h0]; show t.val % 4 * 1 + (j 0).val = t.val % 4; omega)
    | ⟨1, _⟩ => exact (e 1).trans (by rw [h1]; show t.val / 4 * 2048 + (j 1).val = 2048 * (t.val / 4) + (j 1).val; omega)
    | ⟨2, _⟩ => exact (e 2).trans (by rw [h2]; show 0 * 1024 + (j 2).val = (j 2).val; omega)
  exact (congrArg (outBlock m c t) hj).trans
    ((outBlock_apply m c x0 hx0 x1 hx1 x2 hx2 x3 hx3 t _ _ _ rfl).trans (congrArg (Cert.Emb.embed x0 x1 x2 x3) he.symm))

/-- Every entry of the output array is written by some point. -/
theorem covered (i : S4x4097x1024.Idx) : ∃ t : Fin cfg0.N, (cfg0.win 5).flush t = true ∧ i ∈ ((cfg0.win 5).blk t).view.set := by
  have i0 : (i 0).val < 4 := (i 0).isLt
  have i1 : (i 1).val < 4097 := (i 1).isLt
  have i2 : (i 2).val < 1024 := (i 2).isLt
  have hN : 4 * ((i 1).val / 2048) + (i 0).val < cfg0.N := lt_of_lt_of_eq (show _ < 12 by omega) (by decide)
  refine ⟨⟨_, hN⟩, flush0_5 _, ?_⟩
  generalize ht : (⟨_, hN⟩ : Fin cfg0.N) = t
  have hv : t.val = 4 * ((i 1).val / 2048) + (i 0).val := by subst ht; rfl
  obtain ⟨h0, h1, h2⟩ := index_5 t
  have hx0 := xsize_0 t
  have hx1 := xsize_1 t
  have hx2 := xsize_2 t
  let j : (win0_5.xblock (grid0.coords t)).Idx := fun a => match a with
    | ⟨0, _⟩ => ⟨0, lt_of_lt_of_eq Nat.one_pos hx0.symm⟩
    | ⟨1, _⟩ => ⟨(i 1).val % 2048, lt_of_lt_of_eq (by rw [hv]; omega) hx1.symm⟩
    | ⟨2, _⟩ => ⟨(i 2).val, lt_of_lt_of_eq i2 hx2.symm⟩
  have e := Pipeline.Window.rect_emb_val win0_5 t j
  have he : (win0_5.blk t).view.emb j = i := by
    refine funext fun a => Fin.ext ?_
    match a with
    | ⟨0, _⟩ => exact (e 0).trans (by rw [h0]; show t.val % 4 * 1 + 0 = (i 0).val; omega)
    | ⟨1, _⟩ => exact (e 1).trans (by rw [h1]; show t.val / 4 * 2048 + (i 1).val % 2048 = (i 1).val; omega)
    | ⟨2, _⟩ => exact (e 2).trans (by rw [h2]; show 0 * 1024 + (i 2).val = (i 2).val; omega)
  rw [← he]
  exact View.emb_mem_set _ _

/-- The output array ends at the embedding of the arguments. -/
theorem final (c : Dev nD) : (dats m 0 c).arrAt 5 cfg0.N = Cert.Emb.embed (m ((c.tc : Thread nD τ).loc main_arg0))
    (m ((c.tc : Thread nD τ).loc main_arg1)) (m ((c.tc : Thread nD τ).loc main_arg2)) (m ((c.tc : Thread nD τ).loc main_arg3)) :=
  (dats m 0 c).arrAt_eq_of_cover 5 _ (fun t _ => flushed_eq m c _ rfl _ rfl _ rfl _ rfl t) covered

end Cert.KernelIdeal.Emb

end
-- ==== Proof.Same.lean ====
module

public import proofs.«01_k».proof.Defs
public import proofs.«01_k».proof.Proof.Gen.Kernel
public import proofs.«01_k».proof.Proof.Run

@[expose] public section

set_option maxRecDepth 65536

noncomputable section

/-! The kernel's frame. Its program and its idealization are the same text under two names, so the run proved of the
one, at any float values, is a run of the other. -/

namespace Cert.Kernel.Emb

open Idealize.ShloMosaic Idealize.ShloMosaic.TcCoe Idealize.SL.Sem

variable {F : FTy → Type} [FloatOps F]

/-- The two programs call the same body. -/
theorem bodies_eq : Cert.Kernel.defs₀ (F := F) = Cert.KernelIdeal.defs₀ (F := F) := by
  unfold Cert.Kernel.defs₀ Cert.KernelIdeal.defs₀
  refine congrArg _ ?_
  funext l a
  match l, a with
  | 0, (_, _) => rfl

/-- The two programs have the same body table. -/
theorem tables_eq : Cert.Kernel.defs (F := F) = Cert.KernelIdeal.defs (F := F) :=
  congrArg (Pipeline.defs (Cert.Kernel.pcfgs (F := F))) bodies_eq

/-- The kernel runs, leaves its arguments unchanged and every counter at zero, at any float values. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (congrArg (fun D => θ_run D (onTc (τ := τ) (main (F := F))) ⟨m, fun _ => 0, ρ⟩ _) tables_eq).mpr
    (Cert.KernelIdeal.Emb.frame_run m ρ)

end Cert.Kernel.Emb

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs at the machine's floats, leaves its arguments unchanged and every counter at zero. -/
theorem frame_p : Cert.quiescent_Kernel :=
  fun m ρ _ => Cert.Kernel.Emb.frame_run m ρ

/-- So does its idealization. -/
theorem frame_pi : Cert.quiescent_KernelIdeal := fun m ρ _ => Cert.KernelIdeal.Emb.frame_run m ρ

/-- So does the reference, which has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel and the reference, from equal arguments, end with equal results: both hold the embedding. -/
theorem algebraic : Cert.algebraic_KernelIdeal_ReferenceIdeal := by
  intro m ρ m' ρ' _ hargs
  refine ⟨fun c => Cert.Emb.embed (F := Idealize.ShloMosaic.Ideal) (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · exact (θ_run Cert.KernelIdeal.defs _ _).mono
      (fun _ h c => ⟨(h.1 c).trans (Cert.KernelIdeal.Emb.final m c), h.2.1 c⟩)
      (θ_run_and (Cert.KernelIdeal.Emb.result_run m ρ) (Cert.KernelIdeal.Emb.frame_run m ρ))
  · refine (θ_run Cert.ReferenceIdeal.defs _ _).mono (fun _ h c => ⟨(h c).1.trans ((Cert.ReferenceIdeal.Emb.result m' c).trans ?_), (h c).2⟩)
      (Cert.ReferenceIdeal.Value.run m' ρ')
    obtain ⟨h0, h1, h2, h3⟩ := hargs c
    rw [h0, h1, h2, h3]

/-- Everything the certificate claims. -/
theorem claim : Cert.Claim := ⟨Cert.Kernel.Gen.facts, Cert.KernelIdeal.Gen.facts, Cert.ReferenceIdeal.Gen.facts,
  frame_p, frame_pi, frame_ri, trivial, algebraic⟩

end Cert.Proof

end
